-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log_scale" .f32 0xBC935D8E#32 (((-1 / 512) * (Real.log 10000) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x1024 : Shape := ⟨3, ![2, 8192, 1024]⟩
abbrev S8192x1024 : Shape := ⟨2, ![8192, 1024]⟩
abbrev S2048x1024 : Shape := ⟨2, ![2048, 1024]⟩
abbrev S256x512 : Shape := ⟨2, ![256, 512]⟩
abbrev S32x512 : Shape := ⟨2, ![32, 512]⟩
abbrev S16x512 : Shape := ⟨2, ![16, 512]⟩
abbrev S1x512 : Shape := ⟨2, ![1, 512]⟩
abbrev S2x512 : Shape := ⟨2, ![2, 512]⟩

abbrev nBuf : Space → Nat
  | .hbm => 3
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S8192x1024, .f32⟩
  | .hbm, ⟨2, _⟩ => ⟨S8192x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S256x512, .f32⟩
  | .local _ .vmem, ⟨5, _⟩ => ⟨S256x512, .f32⟩
  | .local _ .vmem, ⟨6, _⟩ => ⟨S32x512, .f32⟩
  | .local _ .vmem, ⟨7, _⟩ => ⟨S32x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def k0_off1 (i : grid0.Coords) (c0_i32_4 : BitVec 32) : Fin 2 → Nat :=
  let arg0 : BitVec 32 := BitVec.ofNat 32 (i 0).val
  let c8_i32 : BitVec 32 := 8#32
  let v5 : BitVec 32 := Scalar.muli arg0 c8_i32
  let v6 : BitVec 32 := Scalar.addi v5 c0_i32_4
  let v7 : Index := Scalar.indexCast v6
  let c0_5 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "log_scale" => some (((-1 / 512) * (Real.log 10000) : ℝ) : EReal)
  | _ => none
-- ==== ReferenceIdeal.lean ====
abbrev S2x8192x1024 : Shape := ⟨3, ![2, 8192, 1024]⟩
abbrev S8192x1024 : Shape := ⟨2, ![8192, 1024]⟩
abbrev S512 : Shape := ⟨1, ![512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S8192x512 : Shape := ⟨2, ![8192, 512]⟩
abbrev S1 : Shape := ⟨1, ![1]⟩
abbrev S1x1 : Shape := ⟨2, ![1, 1]⟩

abbrev nBuf : Space → Nat
  | .hbm => 50
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S8192x1024, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .f32⟩
  | .hbm, ⟨16, _⟩ => ⟨S8192, .f32⟩
  | .hbm, ⟨17, _⟩ => ⟨S8192x1, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x1024, .f32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S1, .i32⟩
  | .hbm, ⟨35, _⟩ => ⟨S_, .i32⟩
  | .hbm, ⟨36, _⟩ => ⟨S8192x1, .i32⟩
  | .hbm, ⟨37, _⟩ => ⟨S8192x1, .i1⟩
  | .hbm, ⟨38, _⟩ => ⟨S1x1, .i32⟩
  | .hbm, ⟨39, _⟩ => ⟨S8192x1, .i32⟩
  | .hbm, ⟨40, _⟩ => ⟨S8192x1, .i1⟩
  | .hbm, ⟨41, _⟩ => ⟨S8192x1, .i1⟩
  | .hbm, ⟨42, _⟩ => ⟨S_, .i1⟩
  | .hbm, ⟨43, _⟩ => ⟨S8192, .i1⟩
  | .hbm, ⟨44, _⟩ => ⟨S8192x1024, .f32⟩
  | .hbm, ⟨45, _⟩ => ⟨S8192x1024, .i1⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v20 : Ref sig .tc := ⟨.hbm, 48, rfl⟩
abbrev main_v21 : Ref sig .tc := ⟨.hbm, 49, rfl⟩

abbrev nD : Nat := 1
abbrev τ : Topo := Topo.v7x

variable {F : FTy → Type} [FloatOps F]
-- ==== Proof.Consts.lean ====
/- The float constants of the two programs, as the real numbers they stand for: seven f32 patterns, and the kernel's
   named constant `log_scale`. -/
module

public import proofs.«01_k».proof.KernelIdeal
public import Idealize.ShloMosaic.PureOps.Ideal
public import Idealize.ShloMosaic.PureOps.IdealRules

@[expose] public section

noncomputable section

namespace Cert.Rope

open Idealize.ShloMosaic

/-- The pattern of `0.0` stands for `0`. -/
theorem word_0 : Ideal.ofBits .f32 0x00000000#32 = ((0 : ℝ) : EReal) := by
  simp [Ideal.ofBits, Ideal.ieee]

/-- The pattern of `1.0` stands for `1`. -/
theorem word_1 : Ideal.ofBits .f32 0x3F800000#32 = ((1 : ℝ) : EReal) := by
  simp [Ideal.ofBits, Ideal.ieee, -EReal.coe_mul]; norm_num

/-- The pattern of `2.0` stands for `2`. -/
theorem word_2 : Ideal.ofBits .f32 0x40000000#32 = ((2 : ℝ) : EReal) := by
  simp [Ideal.ofBits, Ideal.ieee, -EReal.coe_mul]; norm_num

/-- The pattern of `16.0` stands for `16`. -/
theorem word_16 : Ideal.ofBits .f32 0x41800000#32 = ((16 : ℝ) : EReal) := by
  simp [Ideal.ofBits, Ideal.ieee, -EReal.coe_mul]; norm_num

/-- The pattern of `256.0` stands for `256`. -/
theorem word_256 : Ideal.ofBits .f32 0x43800000#32 = ((256 : ℝ) : EReal) := by
  simp [Ideal.ofBits, Ideal.ieee, -EReal.coe_mul]; norm_num

/-- The pattern of `1024.0` stands for `1024`. -/
theorem word_1024 : Ideal.ofBits .f32 0x44800000#32 = ((1024 : ℝ) : EReal) := by
  simp [Ideal.ofBits, Ideal.ieee, -EReal.coe_mul]; norm_num

/-- The pattern of `4096.0` stands for `4096`. -/
theorem word_4096 : Ideal.ofBits .f32 0x45800000#32 = ((4096 : ℝ) : EReal) := by
  simp [Ideal.ofBits, Ideal.ieee, -EReal.coe_mul]; norm_num

/-- The pattern of `10000.0` stands for `10000`. -/
theorem word_10000 : Ideal.ofBits .f32 0x461C4000#32 = ((10000 : ℝ) : EReal) := by
  simp [Ideal.ofBits, Ideal.ieee, -EReal.coe_mul]; norm_num

/-- The kernel's constant `log_scale` stands for `-(log 10000) / 512`. -/
theorem log_scale : Named.named (F := Ideal) Cert.KernelIdeal.κ "log_scale" (φ := .f32) 0xBC935D8E#32
    = (((-1 / 512) * Real.log 10000 : ℝ) : EReal) :=
  IdealRules.named_const.ideal_named_scalar _ _ _ _ rfl

end Cert.Rope

end
-- ==== Proof.Angles.lean ====
/- The angles. Column `k` of either half turns by `freq k` per position; a vector of the kernel built from two iotas, a
   step and `log_scale` holds `row * step * freq column`, and a row of coarse angles added to sixteen rows of fine ones
   by the two addition formulas gives the sine and the cosine of the sum. -/
module

public import proofs.«01_k».proof.Proof.Consts
public import Idealize.ShloMosaic.Lib.Pipeline.Value

@[expose] public section

noncomputable section

namespace Cert.Rope

open Idealize.ShloMosaic

/-- Rows of 512 columns. -/
abbrev Rows (n : ℕ) : Shape := ⟨2, ![n, 512]⟩

/-- What one position adds to the angle of column `k`: `10000 ^ (-k / 512)`, as the exponential the kernel takes. -/
def freq (k : ℕ) : ℝ := Real.exp ((k : ℝ) * ((-1 / 512) * Real.log 10000))

/-- What is added at position `p`, column `k`: the sine of `p * freq k` in the left half, the cosine of
    `p * freq (k - 512)` in the right. -/
def wave (p k : ℕ) : EReal :=
  if k < 512 then ((Real.sin ((p : ℝ) * freq k) : ℝ) : EReal) else ((Real.cos ((p : ℝ) * freq (k - 512)) : ℝ) : EReal)

/-- An 8192 by 1024 array with `wave` added at each row and column. -/
def total (x : (⟨2, ![8192, 1024]⟩ : Shape).Idx → EReal) (i : (⟨2, ![8192, 1024]⟩ : Shape).Idx) : EReal :=
  x i + wave (i 0).val (i 1).val

/-- The same frequency as the power the reference takes. -/
theorem freq_eq_rpow (k : ℕ) : Real.rpow 10000 (-(0 + 2 * (k : ℝ)) * (1 / 1024)) = freq k := by
  unfold freq
  rw [Real.rpow_eq_pow, Real.rpow_def_of_pos (by norm_num)]
  congr 1
  ring

/-- A number below `2 ^ 31`, as a 32-bit word, reads back as itself with its sign. -/
theorem toInt_ofNat {n : ℕ} (h : n < 2 ^ 31) : (BitVec.ofNat 32 n).toInt = (n : ℤ) := by
  rw [BitVec.toInt_eq_toNat_cond, BitVec.toNat_ofNat, Nat.mod_eq_of_lt (by omega), if_pos (by omega)]

/-- The kernel's angle vector: at row `r`, column `k` it is `r * step * freq k`. -/
theorem angle_apply {n : ℕ} (hn : n ≤ 256) {b : BitVec 32} {step : ℝ} (hb : Ideal.ofBits .f32 b = (step : EReal))
    (h0 : (Rows n).Iotas .tc 32 [0]) (h1 : (Rows n).Iotas .tc 32 [1]) (j : (Rows n).Idx) :
    mulf (F := Ideal) (φ := .f32) (mulf (sitofp .f32 (iota .tc (Rows n) 32 [0] h0)) (broadcast (Rows n) (FloatOps.ofBits .f32 b)))
      (exp (mulf (sitofp .f32 (iota .tc (Rows n) 32 [1] h1))
        (broadcast (Rows n) (Named.named Cert.KernelIdeal.κ "log_scale" 0xBC935D8E#32)))) j
    = (((j 0).val * step * freq (j 1).val : ℝ) : EReal) := by
  have hj0 : (j 0).val < n := (j 0).isLt
  have hj1 : (j 1).val < 512 := (j 1).isLt
  show (((iota .tc (Rows n) 32 [0] h0 j).toInt : ℝ) : EReal) * Ideal.ofBits .f32 b
      * Ideal.exp ((((iota .tc (Rows n) 32 [1] h1 j).toInt : ℝ) : EReal)
        * Named.named (F := Ideal) Cert.KernelIdeal.κ "log_scale" (φ := .f32) 0xBC935D8E#32) = _
  rw [iota_single_apply, iota_single_apply, toInt_ofNat (by omega), toInt_ofNat (by omega), hb, log_scale,
    ← EReal.coe_mul, ← EReal.coe_mul, Ideal.exp_coe, ← EReal.coe_mul]
  push_cast
  rfl

/-- The index of row `r`, column `k`. -/
def cell {n : ℕ} (r : Fin n) (k : Fin 512) : (Rows n).Idx := fun a => match a with | ⟨0, _⟩ => r | ⟨1, _⟩ => k

/-- One row `q` of a vector, repeated over the rows of a taller one, reads that row everywhere. -/
theorem row_apply {α : Type} {m n : ℕ} {q : ℕ} (v : (Rows m).Idx → α) (h : (Rows m).Slices ![q, 0] (Rows 1))
    (hb : (Rows 1).Broadcasts (Rows n)) (j : (Rows n).Idx) (k : (Rows m).Idx) (hk0 : (k 0).val = q)
    (hk1 : (k 1).val = (j 1).val) : broadcastTo (Rows n) (extractStridedSlice (Rows 1) ![q, 0] v h) hb j = v k := by
  refine (broadcastTo_apply _ hb j (cell 0 (j 1)) (fun a => ?_)).trans (extractStridedSlice_apply _ v h _ k (fun a => ?_))
  · match a with
    | ⟨0, _⟩ => rfl
    | ⟨1, _⟩ => rfl
  · match a with
    | ⟨0, _⟩ => exact hk0
    | ⟨1, _⟩ => show (k 1).val = 0 + (j 1).val; omega

/-- A row repeated over the rows of a taller vector. -/
theorem spread_apply {α : Type} {n : ℕ} (v : (Rows 1).Idx → α) (hb : (Rows 1).Broadcasts (Rows n)) (j : (Rows n).Idx) :
    broadcastTo (Rows n) v hb j = v (cell 0 (j 1)) := by
  refine broadcastTo_apply _ hb j _ (fun a => ?_)
  match a with
  | ⟨0, _⟩ => rfl
  | ⟨1, _⟩ => rfl

/-- The sine of a sum, on real values in the extended reals, as the kernel computes it. -/
theorem sin_sum (a b : ℝ) : ((Real.sin a : ℝ) : EReal) * ((Real.cos b : ℝ) : EReal)
    + ((Real.cos a : ℝ) : EReal) * ((Real.sin b : ℝ) : EReal) = ((Real.sin (a + b) : ℝ) : EReal) := by
  rw [Real.sin_add]; push_cast; rfl

/-- The cosine of a sum, likewise. -/
theorem cos_sum (a b : ℝ) : ((Real.cos a : ℝ) : EReal) * ((Real.cos b : ℝ) : EReal)
    - ((Real.sin a : ℝ) : EReal) * ((Real.sin b : ℝ) : EReal) = ((Real.cos (a + b) : ℝ) : EReal) := by
  rw [Real.cos_add]; push_cast; rfl

end Cert.Rope

end
-- ==== Proof.Tables.lean ====
/- What the kernel's first point leaves in its four tables: the sines and cosines of the angles of 256 consecutive
   positions (step 1) and of the 32 positions that start a run of 256 (step 256). Each table is stored sixteen rows at a
   time; one lemma reads such a store, whatever the table and the run. -/
module

public import proofs.«01_k».proof.Proof.Angles
public import proofs.«01_k».proof.Proof.Gen.KernelIdeal.Frame
public import Idealize.ShloMosaic.Lib.Pipeline.Value
public import Idealize.ShloMosaic.Lib.Pipeline.ReadBack
public import Idealize.ShloMosaic.Lib.Tactic

@[expose] public section

noncomputable section

namespace Cert.Rope

open Idealize.ShloMosaic Idealize.ShloMosaic.TcCoe Idealize.SL.Sem
open Cert.KernelIdeal Cert.KernelIdeal.Gen

/-- The table of sines: row `r`, column `k` holds the sine of `r * step * freq k`. -/
def sinTab (n : ℕ) (step : ℝ) (j : (Rows n).Idx) : EReal := ((Real.sin ((j 0).val * step * freq (j 1).val) : ℝ) : EReal)

/-- The table of cosines of the same angles. -/
def cosTab (n : ℕ) (step : ℝ) (j : (Rows n).Idx) : EReal := ((Real.cos ((j 0).val * step * freq (j 1).val) : ℝ) : EReal)

section Store

variable {m n q o : ℕ} {step : ℝ} (ho : o = 16 * q) (hq : q < m) (A : FVec Ideal (Rows m) .f32) (B : FVec Ideal (Rows 16) .f32)
  (hA : ∀ j, A j = (((j 0).val * (16 * step) * freq (j 1).val : ℝ) : EReal))
  (hB : ∀ j, B j = (((j 0).val * step * freq (j 1).val : ℝ) : EReal))
  (h : (Rows m).Slices ![q, 0] (Rows 1)) (hb : (Rows 1).Broadcasts (Rows 16))
  (inb : ∀ a, (![o, 0] : Fin 2 → ℕ) a + (![16, 512] : Fin 2 → ℕ) a ≤ (Rows n).size a)

include ho hq hA hB

/-- The store of sines at row `16 q`: row `q` of the coarse angles plus sixteen fine ones is the table there. -/
theorem sin_store : ∀ x : (Rect.unit (s := Rows n) ![o, 0] ![16, 512] inb).shape.Idx,
    addf (mulf (broadcastTo (Rows 16) (extractStridedSlice (Rows 1) ![q, 0] (sin A) h) hb) (cos B))
      (mulf (broadcastTo (Rows 16) (extractStridedSlice (Rows 1) ![q, 0] (cos A) h) hb) (sin B)) x
    = sinTab n step ((Rect.unit (s := Rows n) ![o, 0] ![16, 512] inb).emb x) := by
  subst ho
  intro x
  show broadcastTo (Rows 16) (extractStridedSlice (Rows 1) ![q, 0] (sin A) h) hb x * Ideal.cos (B x)
      + broadcastTo (Rows 16) (extractStridedSlice (Rows 1) ![q, 0] (cos A) h) hb x * Ideal.sin (B x) = _
  rw [row_apply (sin A) h hb x (cell ⟨q, hq⟩ (x 1)) rfl rfl, row_apply (cos A) h hb x (cell ⟨q, hq⟩ (x 1)) rfl rfl]
  show Ideal.sin (A (cell ⟨q, hq⟩ (x 1))) * Ideal.cos (B x) + Ideal.cos (A (cell ⟨q, hq⟩ (x 1))) * Ideal.sin (B x) = _
  rw [hA, hB, Ideal.sin_coe, Ideal.cos_coe, Ideal.sin_coe, Ideal.cos_coe, sin_sum]
  show _ = ((Real.sin (((16 * q + 1 * (x 0).val : ℕ) : ℝ) * step * freq (0 + 1 * (x 1).val)) : ℝ) : EReal)
  show ((Real.sin (((q : ℕ) : ℝ) * (16 * step) * freq (x 1).val + (x 0).val * step * freq (x 1).val) : ℝ) : EReal) = _
  rw [Nat.zero_add, Nat.one_mul, Nat.one_mul]
  push_cast
  congr 3
  ring

/-- The store of cosines at row `16 q`. -/
theorem cos_store : ∀ x : (Rect.unit (s := Rows n) ![o, 0] ![16, 512] inb).shape.Idx,
    subf (mulf (broadcastTo (Rows 16) (extractStridedSlice (Rows 1) ![q, 0] (cos A) h) hb) (cos B))
      (mulf (broadcastTo (Rows 16) (extractStridedSlice (Rows 1) ![q, 0] (sin A) h) hb) (sin B)) x
    = cosTab n step ((Rect.unit (s := Rows n) ![o, 0] ![16, 512] inb).emb x) := by
  subst ho
  intro x
  show broadcastTo (Rows 16) (extractStridedSlice (Rows 1) ![q, 0] (cos A) h) hb x * Ideal.cos (B x)
      - broadcastTo (Rows 16) (extractStridedSlice (Rows 1) ![q, 0] (sin A) h) hb x * Ideal.sin (B x) = _
  rw [row_apply (sin A) h hb x (cell ⟨q, hq⟩ (x 1)) rfl rfl, row_apply (cos A) h hb x (cell ⟨q, hq⟩ (x 1)) rfl rfl]
  show Ideal.cos (A (cell ⟨q, hq⟩ (x 1))) * Ideal.cos (B x) - Ideal.sin (A (cell ⟨q, hq⟩ (x 1))) * Ideal.sin (B x) = _
  rw [hA, hB, Ideal.sin_coe, Ideal.cos_coe, Ideal.sin_coe, Ideal.cos_coe, cos_sum]
  show _ = ((Real.cos (((16 * q + 1 * (x 0).val : ℕ) : ℝ) * step * freq (0 + 1 * (x 1).val)) : ℝ) : EReal)
  show ((Real.cos (((q : ℕ) : ℝ) * (16 * step) * freq (x 1).val + (x 0).val * step * freq (x 1).val) : ℝ) : EReal) = _
  rw [Nat.zero_add, Nat.one_mul, Nat.one_mul]
  push_cast
  congr 3
  ring

end Store

/-! The four angle vectors the stores combine. -/

/-- Fine angles of step 1: sixteen positions. -/
theorem fine_1 (h0 : (Rows 16).Iotas .tc 32 [0]) (h1 : (Rows 16).Iotas .tc 32 [1]) (j : (Rows 16).Idx) :
    mulf (F := Ideal) (φ := .f32) (mulf (sitofp .f32 (iota .tc (Rows 16) 32 [0] h0)) (broadcast (Rows 16) (FloatOps.ofBits .f32 0x3F800000#32)))
      (exp (mulf (sitofp .f32 (iota .tc (Rows 16) 32 [1] h1))
        (broadcast (Rows 16) (Named.named Cert.KernelIdeal.κ "log_scale" 0xBC935D8E#32)))) j
    = (((j 0).val * 1 * freq (j 1).val : ℝ) : EReal) := angle_apply (by omega) word_1 h0 h1 j

/-- Coarse angles of step 1: every sixteenth position. -/
theorem coarse_1 (h0 : (Rows 16).Iotas .tc 32 [0]) (h1 : (Rows 16).Iotas .tc 32 [1]) (j : (Rows 16).Idx) :
    mulf (F := Ideal) (φ := .f32) (mulf (sitofp .f32 (iota .tc (Rows 16) 32 [0] h0)) (broadcast (Rows 16) (FloatOps.ofBits .f32 0x41800000#32)))
      (exp (mulf (sitofp .f32 (iota .tc (Rows 16) 32 [1] h1))
        (broadcast (Rows 16) (Named.named Cert.KernelIdeal.κ "log_scale" 0xBC935D8E#32)))) j
    = (((j 0).val * (16 * 1) * freq (j 1).val : ℝ) : EReal) := by
  rw [angle_apply (by omega) word_16 h0 h1 j, mul_one]

/-- Fine angles of step 256: sixteen runs of 256 positions. -/
theorem fine_256 (h0 : (Rows 16).Iotas .tc 32 [0]) (h1 : (Rows 16).Iotas .tc 32 [1]) (j : (Rows 16).Idx) :
    mulf (F := Ideal) (φ := .f32) (mulf (sitofp .f32 (iota .tc (Rows 16) 32 [0] h0)) (broadcast (Rows 16) (FloatOps.ofBits .f32 0x43800000#32)))
      (exp (mulf (sitofp .f32 (iota .tc (Rows 16) 32 [1] h1))
        (broadcast (Rows 16) (Named.named Cert.KernelIdeal.κ "log_scale" 0xBC935D8E#32)))) j
    = (((j 0).val * 256 * freq (j 1).val : ℝ) : EReal) := angle_apply (by omega) word_256 h0 h1 j

/-- Coarse angles of step 256: every 4096th position. -/
theorem coarse_256 (h0 : (Rows 2).Iotas .tc 32 [0]) (h1 : (Rows 2).Iotas .tc 32 [1]) (j : (Rows 2).Idx) :
    mulf (F := Ideal) (φ := .f32) (mulf (sitofp .f32 (iota .tc (Rows 2) 32 [0] h0)) (broadcast (Rows 2) (FloatOps.ofBits .f32 0x45800000#32)))
      (exp (mulf (sitofp .f32 (iota .tc (Rows 2) 32 [1] h1))
        (broadcast (Rows 2) (Named.named Cert.KernelIdeal.κ "log_scale" 0xBC935D8E#32)))) j
    = (((j 0).val * (16 * 256) * freq (j 1).val : ℝ) : EReal) := by
  rw [angle_apply (by omega) word_4096 h0 h1 j]; norm_num

section Point

variable (c : Dev nD) (i : grid0.Coords) (arg1 : Memref sig .tc .vmem S2048x1024 .f32) (harg1 : arg1.IsWhole)
  (arg2 : Memref sig .tc .vmem S2048x1024 .f32) (harg2 : arg2.IsWhole) (arg3 : Memref sig .tc .vmem S256x512 .f32) (harg3 : arg3.IsWhole)
  (arg4 : Memref sig .tc .vmem S256x512 .f32) (harg4 : arg4.IsWhole) (arg5 : Memref sig .tc .vmem S32x512 .f32) (harg5 : arg5.IsWhole)
  (arg6 : Memref sig .tc .vmem S32x512 .f32) (harg6 : arg6.IsWhole) (hc : cond0_0 i) (x : Vec Ideal S2048x1024 .f32)

/-- The stores into the first table leave the sines of step 1, -/
theorem canon_sin : View.canon (kernelRun0_A (F := Ideal) c i arg1 harg1 arg2 harg2 arg3 harg3 arg4 harg4 arg5 harg5 arg6 harg6 hc x).2.1
    = sinTab 256 1 := by
  funext y
  refine View.canon_apply_of_pieces _ _ (View.PiecesOf.mem ?_) y (scover0_A_0 c i arg1 harg1 arg2 harg2 arg3 harg3 arg4 harg4 arg5 harg5 arg6 harg6 hc x y)
  unfold kernelRun0_A
  dsimp only
  sl_unfold_words
  simp only [shapeCast_self]
  iterate 16 refine ⟨sin_store (by rfl) (by omega) _ _ (coarse_1 _ _) (fine_1 _ _) _ _ (by decide), ?_⟩
  trivial

/-- into the second the cosines of step 1, -/
theorem canon_cos : View.canon (kernelRun0_A (F := Ideal) c i arg1 harg1 arg2 harg2 arg3 harg3 arg4 harg4 arg5 harg5 arg6 harg6 hc x).2.2.1
    = cosTab 256 1 := by
  funext y
  refine View.canon_apply_of_pieces _ _ (View.PiecesOf.mem ?_) y (scover0_A_1 c i arg1 harg1 arg2 harg2 arg3 harg3 arg4 harg4 arg5 harg5 arg6 harg6 hc x y)
  unfold kernelRun0_A
  dsimp only
  sl_unfold_words
  simp only [shapeCast_self]
  iterate 16 refine ⟨cos_store (by rfl) (by omega) _ _ (coarse_1 _ _) (fine_1 _ _) _ _ (by decide), ?_⟩
  trivial

/-- into the third the sines of step 256, -/
theorem canon_bsin : View.canon (kernelRun0_A (F := Ideal) c i arg1 harg1 arg2 harg2 arg3 harg3 arg4 harg4 arg5 harg5 arg6 harg6 hc x).2.2.2.1
    = sinTab 32 256 := by
  funext y
  refine View.canon_apply_of_pieces _ _ (View.PiecesOf.mem ?_) y (scover0_A_2 c i arg1 harg1 arg2 harg2 arg3 harg3 arg4 harg4 arg5 harg5 arg6 harg6 hc x y)
  unfold kernelRun0_A
  dsimp only
  sl_unfold_words
  simp only [shapeCast_self]
  iterate 2 refine ⟨sin_store (by rfl) (by omega) _ _ (coarse_256 _ _) (fine_256 _ _) _ _ (by decide), ?_⟩
  trivial

/-- and into the fourth the cosines of step 256. -/
theorem canon_bcos : View.canon (kernelRun0_A (F := Ideal) c i arg1 harg1 arg2 harg2 arg3 harg3 arg4 harg4 arg5 harg5 arg6 harg6 hc x).2.2.2.2.1
    = cosTab 32 256 := by
  funext y
  refine View.canon_apply_of_pieces _ _ (View.PiecesOf.mem ?_) y (scover0_A_3 c i arg1 harg1 arg2 harg2 arg3 harg3 arg4 harg4 arg5 harg5 arg6 harg6 hc x y)
  unfold kernelRun0_A
  dsimp only
  sl_unfold_words
  unfold k0_pay93
  simp only [shapeCast_self]
  iterate 2 refine ⟨cos_store (by rfl) (by omega) _ _ (coarse_256 _ _) (fine_256 _ _) _ _ (by decide), ?_⟩
  trivial

/-- So after the first point the four tables hold these. -/
theorem tables_A :
    sout0_A_0 (F := Ideal) c i arg1 harg1 arg2 harg2 arg3 harg3 arg4 harg4 arg5 harg5 arg6 harg6 hc x = sinTab 256 1
    ∧ sout0_A_1 (F := Ideal) c i arg1 harg1 arg2 harg2 arg3 harg3 arg4 harg4 arg5 harg5 arg6 harg6 hc x = cosTab 256 1
    ∧ sout0_A_2 (F := Ideal) c i arg1 harg1 arg2 harg2 arg3 harg3 arg4 harg4 arg5 harg5 arg6 harg6 hc x = sinTab 32 256
    ∧ sout0_A_3 (F := Ideal) c i arg1 harg1 arg2 harg2 arg3 harg3 arg4 harg4 arg5 harg5 arg6 harg6 hc x = cosTab 32 256 := by
  unfold sout0_A_0 sout0_A_1 sout0_A_2 sout0_A_3
  simp only [View.read_writes_junk_eq_canon]
  exact ⟨canon_sin .., canon_cos .., canon_bsin .., canon_bcos ..⟩

end Point

end Cert.Rope

end
-- ==== Proof.Block.lean ====
/- What one grid point leaves in its block of the result. Point `t` holds positions `2048 t` to `2048 t + 2047`; it adds to
   each of its rows the sines (left half) and the cosines (right half) of the row's angles, eight runs of 256 rows at a
   time, from a row of the tables of step 256 and the tables of step 1. The first point reads the tables it has just
   stored, a later one the tables it finds; both leave the same function of the block. -/
module

public import proofs.«01_k».proof.Proof.Tables

@[expose] public section

noncomputable section

namespace Cert.Rope

open Idealize.ShloMosaic Idealize.ShloMosaic.TcCoe Idealize.SL.Sem
open Cert.KernelIdeal Cert.KernelIdeal.Gen

/-- The block point `t` leaves of its input block `x`. -/
def blockVal (t : ℕ) (x : S2048x1024.Idx → EReal) (y : S2048x1024.Idx) : EReal :=
  x y + wave (2048 * t + (y 0).val) (y 1).val

section Store

variable {t u o : ℕ} (ho : o = 256 * u) (x : S2048x1024.Idx → EReal)
  (X S C : FVec Ideal (Rows 256) .f32) (SB CB : FVec Ideal (Rows 1) .f32)
  (hS : ∀ j, S j = sinTab 256 1 j) (hC : ∀ j, C j = cosTab 256 1 j)
  (hSB : ∀ j, SB j = ((Real.sin (((8 * t + u : ℕ) : ℝ) * 256 * freq (j 1).val) : ℝ) : EReal))
  (hCB : ∀ j, CB j = ((Real.cos (((8 * t + u : ℕ) : ℝ) * 256 * freq (j 1).val) : ℝ) : EReal))
  (hb : (Rows 1).Broadcasts (Rows 256))

include ho hS hC hSB hCB

/-- A store into the left half, rows `256 u` on. -/
theorem left_store (inb : ∀ a, (![o, 0] : Fin 2 → ℕ) a + (![256, 512] : Fin 2 → ℕ) a ≤ S2048x1024.size a)
    (hX : ∀ j, X j = x ((Rect.unit (s := S2048x1024) ![o, 0] ![256, 512] inb).emb j)) :
    ∀ j : (Rect.unit (s := S2048x1024) ![o, 0] ![256, 512] inb).shape.Idx,
      addf X (addf (mulf (broadcastTo (Rows 256) SB hb) C) (mulf (broadcastTo (Rows 256) CB hb) S)) j
      = blockVal t x ((Rect.unit (s := S2048x1024) ![o, 0] ![256, 512] inb).emb j) := by
  subst ho
  intro j
  have hj : (j 1).val < 512 := (j 1).isLt
  show X j + (broadcastTo (Rows 256) SB hb j * C j + broadcastTo (Rows 256) CB hb j * S j)
    = x _ + wave (2048 * t + (256 * u + 1 * (j 0).val)) (0 + 1 * (j 1).val)
  rw [hX, spread_apply, spread_apply, hSB, hCB, hS, hC]
  refine congrArg (_ + ·) ?_
  show ((Real.sin (((8 * t + u : ℕ) : ℝ) * 256 * freq (j 1).val) : ℝ) : EReal) * ((Real.cos ((j 0).val * 1 * freq (j 1).val) : ℝ) : EReal)
    + ((Real.cos (((8 * t + u : ℕ) : ℝ) * 256 * freq (j 1).val) : ℝ) : EReal) * ((Real.sin ((j 0).val * 1 * freq (j 1).val) : ℝ) : EReal) = _
  rw [sin_sum, Nat.zero_add, Nat.one_mul, Nat.one_mul, wave, if_pos hj]
  push_cast
  congr 3
  ring

/-- A store into the right half. -/
theorem right_store (inb : ∀ a, (![o, 512] : Fin 2 → ℕ) a + (![256, 512] : Fin 2 → ℕ) a ≤ S2048x1024.size a)
    (hX : ∀ j, X j = x ((Rect.unit (s := S2048x1024) ![o, 512] ![256, 512] inb).emb j)) :
    ∀ j : (Rect.unit (s := S2048x1024) ![o, 512] ![256, 512] inb).shape.Idx,
      addf X (subf (mulf (broadcastTo (Rows 256) CB hb) C) (mulf (broadcastTo (Rows 256) SB hb) S)) j
      = blockVal t x ((Rect.unit (s := S2048x1024) ![o, 512] ![256, 512] inb).emb j) := by
  subst ho
  intro j
  show X j + (broadcastTo (Rows 256) CB hb j * C j - broadcastTo (Rows 256) SB hb j * S j)
    = x _ + wave (2048 * t + (256 * u + 1 * (j 0).val)) (512 + 1 * (j 1).val)
  rw [hX, spread_apply, spread_apply, hSB, hCB, hS, hC]
  refine congrArg (_ + ·) ?_
  show ((Real.cos (((8 * t + u : ℕ) : ℝ) * 256 * freq (j 1).val) : ℝ) : EReal) * ((Real.cos ((j 0).val * 1 * freq (j 1).val) : ℝ) : EReal)
    - ((Real.sin (((8 * t + u : ℕ) : ℝ) * 256 * freq (j 1).val) : ℝ) : EReal) * ((Real.sin ((j 0).val * 1 * freq (j 1).val) : ℝ) : EReal) = _
  rw [cos_sum, Nat.one_mul, Nat.one_mul, wave, if_neg (by omega), Nat.add_sub_cancel_left]
  push_cast
  congr 3
  ring

end Store

/-- The row of the step-256 tables that run `u` of point `i` reads: row `8 i + u`. -/
theorem row_of (i : grid0.Coords) (u : Fin 8) : k0_off1 i (BitVec.ofNat 32 u.val) = ![8 * (i 0).val + u.val, 0] := by
  have hi : (i 0).val < 4 := (i 0).isLt
  have hu := u.isLt
  unfold k0_off1
  refine congrArg (fun n : ℕ => (![n, 0] : Fin 2 → ℕ)) ?_
  show (BitVec.ofNat 32 (i 0).val * 8#32 + BitVec.ofNat 32 u.val).toNat = _
  rw [BitVec.toNat_add, BitVec.toNat_mul, BitVec.toNat_ofNat, BitVec.toNat_ofNat, BitVec.toNat_ofNat]
  omega

/-- A one-row box at row `b`, read at an index, is the array at row `b`. -/
theorem row_idx {n b : ℕ} {off : Fin 2 → ℕ} (hoff : off = ![b, 0]) (hb : b < n)
    (inb : ∀ a, off a + (![1, 512] : Fin 2 → ℕ) a ≤ (Rows n).size a)
    (j : (Rect.unit (s := Rows n) off ![1, 512] inb).shape.Idx) :
    (Rect.unit (s := Rows n) off ![1, 512] inb).toLoadRect.idx j = cell ⟨b, hb⟩ (j 1) := by
  subst hoff
  have h0 : (j 0).val < 1 := (j 0).isLt
  refine Shape.idx_ext₂ ?_ ?_
  · show b + 1 * (j 0).val = b; omega
  · show 0 + 1 * (j 1).val = (j 1).val; omega

/-- The whole of a two-axis array, read at an index. -/
theorem whole_idx {n : ℕ} (inb : ∀ a, (![0, 0] : Fin 2 → ℕ) a + (![n, 512] : Fin 2 → ℕ) a ≤ (Rows n).size a)
    (j : (Rect.unit (s := Rows n) ![0, 0] ![n, 512] inb).shape.Idx) :
    (Rect.unit (s := Rows n) ![0, 0] ![n, 512] inb).toLoadRect.idx j = j := by
  refine Shape.idx_ext₂ ?_ ?_
  · show 0 + 1 * (j 0).val = (j 0).val; omega
  · show 0 + 1 * (j 1).val = (j 1).val; omega

section Point

variable (c : Dev nD) (i : grid0.Coords) (arg1 : Memref sig .tc .vmem S2048x1024 .f32) (harg1 : arg1.IsWhole)
  (arg2 : Memref sig .tc .vmem S2048x1024 .f32) (harg2 : arg2.IsWhole) (arg3 : Memref sig .tc .vmem S256x512 .f32) (harg3 : arg3.IsWhole)
  (arg4 : Memref sig .tc .vmem S256x512 .f32) (harg4 : arg4.IsWhole) (arg5 : Memref sig .tc .vmem S32x512 .f32) (harg5 : arg5.IsWhole)
  (arg6 : Memref sig .tc .vmem S32x512 .f32) (harg6 : arg6.IsWhole) (x : Vec Ideal S2048x1024 .f32)

/-- A load of a whole table that holds `T`. -/
theorem found_whole {n : ℕ} (m : Memref sig .tc .vmem (Rows n) .f32) (h : m.IsWhole) (T : Vec Ideal (Rows n) .f32)
    (inb : ∀ a, (![0, 0] : Fin 2 → ℕ) a + (![n, 512] : Fin 2 → ℕ) a ≤ (Rows n).size a) (j : (Rows n).Idx) :
    View.readAt (Elt Ideal) m.view (Rect.unit (s := Rows n) ![0, 0] ![n, 512] inb).toLoadRect (h.unread T) j = T j := by
  rw [View.readAt_apply, h.read_unread]
  exact congrArg T (whole_idx inb j)

/-- A load of row `8 i + u` of a table that holds `T`. -/
theorem found_row (i : grid0.Coords) (u : Fin 8) (m : Memref sig .tc .vmem (Rows 32) .f32) (h : m.IsWhole) (T : Vec Ideal (Rows 32) .f32)
    (inb : ∀ a, k0_off1 i (BitVec.ofNat 32 u.val) a + (![1, 512] : Fin 2 → ℕ) a ≤ (Rows 32).size a) (hb : 8 * (i 0).val + u.val < 32)
    (j : (Rows 1).Idx) :
    View.readAt (Elt Ideal) m.view (Rect.unit (s := Rows 32) (k0_off1 i (BitVec.ofNat 32 u.val)) ![1, 512] inb).toLoadRect (h.unread T) j
    = T (cell ⟨8 * (i 0).val + u.val, hb⟩ (j 1)) := by
  rw [View.readAt_apply, h.read_unread]
  exact congrArg T (row_idx (row_of i u) hb inb j)

/-- A load of a box of the input block. -/
theorem found_box (m : Memref sig .tc .vmem S2048x1024 .f32) (h : m.IsWhole) (x : Vec Ideal S2048x1024 .f32) (r : Rect S2048x1024)
    (j : r.shape.Idx) : View.readAt (Elt Ideal) m.view r.toLoadRect (h.unread x) j = x (r.emb j) := by
  rw [View.readAt_apply, h.read_unread]; rfl

/-- A load of a whole table just stored. -/
theorem stored_whole {n : ℕ} (m : Memref sig .tc .vmem (Rows n) .f32) (L : List (View.Piece (Elt Ideal) (Rows n) .f32))
    (T : Vec Ideal (Rows n) .f32) (hT : View.canon L = T)
    (inb : ∀ a, (![0, 0] : Fin 2 → ℕ) a + (![n, 512] : Fin 2 → ℕ) a ≤ (Rows n).size a) (j : (Rows n).Idx) :
    m.view.readCov L (Rect.unit (s := Rows n) ![0, 0] ![n, 512] inb).toLoadRect j = T j := by
  rw [View.readCov_eq_canon', hT]
  exact congrArg T (whole_idx inb j)

/-- A load of row `8 i + u` of a table just stored. -/
theorem stored_row (i : grid0.Coords) (u : Fin 8) (m : Memref sig .tc .vmem (Rows 32) .f32) (L : List (View.Piece (Elt Ideal) (Rows 32) .f32))
    (T : Vec Ideal (Rows 32) .f32) (hT : View.canon L = T)
    (inb : ∀ a, k0_off1 i (BitVec.ofNat 32 u.val) a + (![1, 512] : Fin 2 → ℕ) a ≤ (Rows 32).size a) (hb : 8 * (i 0).val + u.val < 32)
    (j : (Rows 1).Idx) :
    m.view.readCov L (Rect.unit (s := Rows 32) (k0_off1 i (BitVec.ofNat 32 u.val)) ![1, 512] inb).toLoadRect j
    = T (cell ⟨8 * (i 0).val + u.val, hb⟩ (j 1)) := by
  rw [View.readCov_eq_canon', hT]
  exact congrArg T (row_idx (row_of i u) hb inb j)

/-- Row `8 i + u` is one of the 32. -/
theorem row_lt (i : grid0.Coords) (u : Fin 8) : 8 * (i 0).val + u.val < 32 := by
  have hi : (i 0).val < 4 := (i 0).isLt
  have hu := u.isLt
  omega

/-- A later point, finding the tables, leaves `blockVal`. -/
theorem block_B (hc : ¬cond0_0 i) :
    out0_B_1 (F := Ideal) c i arg1 harg1 arg2 harg2 arg3 harg3 arg4 harg4 arg5 harg5 arg6 harg6 hc x
      (sinTab 256 1) (cosTab 256 1) (sinTab 32 256) (cosTab 32 256) = blockVal (i 0).val x := by
  unfold out0_B_1
  rw [View.read_writes_junk_eq_canon]
  funext y
  refine View.canon_apply_of_pieces _ _ (View.PiecesOf.mem ?_) y
    (cover0_B_1 c i arg1 harg1 arg2 harg2 arg3 harg3 arg4 harg4 arg5 harg5 arg6 harg6 hc x _ _ _ _ y)
  have L : ∀ (u : Fin 8) (o : ℕ) (ho : o = 256 * u.val) inb inb₃ inb₄ inb₅ inb₆ hb, _ := fun u o ho inb inb₃ inb₄ inb₅ inb₆ hb =>
    left_store (t := (i 0).val) ho x _ _ _ _ _ (found_whole arg3 harg3 (sinTab 256 1) inb₃) (found_whole arg4 harg4 (cosTab 256 1) inb₄)
      (found_row i u arg5 harg5 (sinTab 32 256) inb₅ (row_lt i u)) (found_row i u arg6 harg6 (cosTab 32 256) inb₆ (row_lt i u)) hb inb
      (found_box arg1 harg1 x (Rect.unit (s := S2048x1024) ![o, 0] ![256, 512] inb))
  have R : ∀ (u : Fin 8) (o : ℕ) (ho : o = 256 * u.val) inb inb₃ inb₄ inb₅ inb₆ hb, _ := fun u o ho inb inb₃ inb₄ inb₅ inb₆ hb =>
    right_store (t := (i 0).val) ho x _ _ _ _ _ (found_whole arg3 harg3 (sinTab 256 1) inb₃) (found_whole arg4 harg4 (cosTab 256 1) inb₄)
      (found_row i u arg5 harg5 (sinTab 32 256) inb₅ (row_lt i u)) (found_row i u arg6 harg6 (cosTab 32 256) inb₆ (row_lt i u)) hb inb
      (found_box arg1 harg1 x (Rect.unit (s := S2048x1024) ![o, 512] ![256, 512] inb))
  exact ⟨R 7 1792 rfl _ _ _ _ _ _, L 7 1792 rfl _ _ _ _ _ _, R 6 1536 rfl _ _ _ _ _ _, L 6 1536 rfl _ _ _ _ _ _,
    R 5 1280 rfl _ _ _ _ _ _, L 5 1280 rfl _ _ _ _ _ _, R 4 1024 rfl _ _ _ _ _ _, L 4 1024 rfl _ _ _ _ _ _,
    R 3 768 rfl _ _ _ _ _ _, L 3 768 rfl _ _ _ _ _ _, R 2 512 rfl _ _ _ _ _ _, L 2 512 rfl _ _ _ _ _ _,
    R 1 256 rfl _ _ _ _ _ _, L 1 256 rfl _ _ _ _ _ _, R 0 0 rfl _ _ _ _ _ _, L 0 0 rfl _ _ _ _ _ _, trivial⟩

/-- The first point, which stores the tables and reads them back, leaves `blockVal`. -/
theorem block_A (hc : cond0_0 i) :
    out0_A_1 (F := Ideal) c i arg1 harg1 arg2 harg2 arg3 harg3 arg4 harg4 arg5 harg5 arg6 harg6 hc x = blockVal (i 0).val x := by
  unfold out0_A_1
  rw [View.read_writes_junk_eq_canon]
  funext y
  refine View.canon_apply_of_pieces _ _ (View.PiecesOf.mem ?_) y
    (cover0_A_1 c i arg1 harg1 arg2 harg2 arg3 harg3 arg4 harg4 arg5 harg5 arg6 harg6 hc x y)
  have hs := canon_sin c i arg1 harg1 arg2 harg2 arg3 harg3 arg4 harg4 arg5 harg5 arg6 harg6 hc x
  have hk := canon_cos c i arg1 harg1 arg2 harg2 arg3 harg3 arg4 harg4 arg5 harg5 arg6 harg6 hc x
  have hbs := canon_bsin c i arg1 harg1 arg2 harg2 arg3 harg3 arg4 harg4 arg5 harg5 arg6 harg6 hc x
  have hbc := canon_bcos c i arg1 harg1 arg2 harg2 arg3 harg3 arg4 harg4 arg5 harg5 arg6 harg6 hc x
  have L : ∀ (u : Fin 8) (o : ℕ) (ho : o = 256 * u.val) inb inb₃ inb₄ inb₅ inb₆ hb, _ := fun u o ho inb inb₃ inb₄ inb₅ inb₆ hb =>
    left_store (t := (i 0).val) ho x _ _ _ _ _ (stored_whole arg3 _ _ hs inb₃) (stored_whole arg4 _ _ hk inb₄)
      (stored_row i u arg5 _ _ hbs inb₅ (row_lt i u)) (stored_row i u arg6 _ _ hbc inb₆ (row_lt i u)) hb inb
      (found_box arg1 harg1 x (Rect.unit (s := S2048x1024) ![o, 0] ![256, 512] inb))
  have R : ∀ (u : Fin 8) (o : ℕ) (ho : o = 256 * u.val) inb inb₃ inb₄ inb₅ inb₆ hb, _ := fun u o ho inb inb₃ inb₄ inb₅ inb₆ hb =>
    right_store (t := (i 0).val) ho x _ _ _ _ _ (stored_whole arg3 _ _ hs inb₃) (stored_whole arg4 _ _ hk inb₄)
      (stored_row i u arg5 _ _ hbs inb₅ (row_lt i u)) (stored_row i u arg6 _ _ hbc inb₆ (row_lt i u)) hb inb
      (found_box arg1 harg1 x (Rect.unit (s := S2048x1024) ![o, 512] ![256, 512] inb))
  exact ⟨R 7 1792 rfl _ _ _ _ _ _, L 7 1792 rfl _ _ _ _ _ _, R 6 1536 rfl _ _ _ _ _ _, L 6 1536 rfl _ _ _ _ _ _,
    R 5 1280 rfl _ _ _ _ _ _, L 5 1280 rfl _ _ _ _ _ _, R 4 1024 rfl _ _ _ _ _ _, L 4 1024 rfl _ _ _ _ _ _,
    R 3 768 rfl _ _ _ _ _ _, L 3 768 rfl _ _ _ _ _ _, R 2 512 rfl _ _ _ _ _ _, L 2 512 rfl _ _ _ _ _ _,
    R 1 256 rfl _ _ _ _ _ _, L 1 256 rfl _ _ _ _ _ _, R 0 0 rfl _ _ _ _ _ _, L 0 0 rfl _ _ _ _ _ _, trivial⟩

end Point

end Cert.Rope

end
-- ==== Proof.Array.lean ====
/- What the kernel's result holds after the run: the four tables are the same after every grid point, so every point leaves
   `blockVal` of its block of the embedding, and the result is the embedding plus `wave`, index by index. -/
module

public import proofs.«01_k».proof.Proof.Block
public import proofs.«01_k».proof.Proof.Gen.KernelIdeal.Value

@[expose] public section

noncomputable section

namespace Cert.Rope

open Idealize.ShloMosaic Idealize.ShloMosaic.TcCoe Idealize.SL.Sem
open Cert.KernelIdeal Cert.KernelIdeal.Gen Cert.KernelIdeal.Value

variable (m : (ℓ : Loc nD τ sig) → Buf (Elt Ideal) ℓ)

/-- The grid has one axis: point `t`'s coordinate is `t`. -/
theorem coord (t : Fin cfg0.N) : ((grid0.coords t) 0).val = t.val :=
  (by decide +kernel : ∀ t : Fin grid0.N, ((grid0.coords t) 0).val = t.val) t

/-- Point `t` reads the block of the embedding at rows `2048 t` on. -/
theorem start_row (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t

/-- What every point leaves: its block's values, and the tables as the first point stored them. -/
theorem left_by (c : Dev nD) (n : ℕ) (hn : n < cfg0.N) :
    outsAt0 m c n hn = (blockVal n (iblk m c 0 ⟨n, hn⟩), sinTab 256 1, cosTab 256 1, sinTab 32 256, cosTab 32 256) := by
  have hN := lt_of_lt_of_eq hn (show cfg0.N = 4 from N_0)
  induction n with
  | zero =>
    refine (outsAt0_A m c ⟨0, hn⟩ rfl).trans ?_
    obtain ⟨e0, e1, e2, e3⟩ := tables_A c (grid0.coords ⟨0, hn⟩) (ms0_0 ⟨0, hn⟩) (hs0_0 ⟨0, hn⟩) (ms0_1 ⟨0, hn⟩) (hs0_1 ⟨0, hn⟩)
      scM0_0 (Memref.isWhole_whole _) scM0_1 (Memref.isWhole_whole _) scM0_2 (Memref.isWhole_whole _) scM0_3 (Memref.isWhole_whole _)
      ((hcond0_0 ⟨0, hn⟩).mpr rfl) (iblk m c 0 ⟨0, hn⟩)
    rw [block_A, e0, e1, e2, e3, coord]
  | succ n ih =>
    have h0 : ¬(n + 1) % 4 = 0 := by omega
    refine (outsAt0_B m c ⟨n + 1, hn⟩ h0).trans ?_
    have e : outsAt0 m c ((⟨n + 1, hn⟩ : Fin cfg0.N).val - 1) (Nat.lt_of_le_of_lt (Nat.sub_le _ _) hn) = _ :=
      ih (Nat.lt_of_succ_lt hn) (by omega)
    rw [e]
    dsimp only
    rw [block_B, coord]
    rfl

/-- A block of the embedding, read at an index of the block. -/
theorem block_apply (c : Dev nD) (t : Fin cfg0.N) (y : S2048x1024.Idx) (i : S8192x1024.Idx)
    (h0 : (i 0).val = t.val * 2048 + (y 0).val) (h1 : (i 1).val = (y 1).val) :
    iblk m c 0 t y = m ((c : Thread nD τ).loc main_arg1) i := by
  obtain ⟨e0, e1⟩ := start_row t
  show V m c (Pipeline.arrRef spec0 0) (((cfg0.win 0).blk t).view.emb y) = _
  have e : ((cfg0.win 0).blk t).view.emb y = i := by
    refine Shape.idx_ext₂ ?_ ?_
    · show win0_0.index t (0 : Fin 2) * 2048 + 1 * (y 0).val = _
      rw [e0, h0]; omega
    · show win0_0.index t (1 : Fin 2) * 1024 + 1 * (y 1).val = _
      rw [e1, h1]; omega
  rw [e]

/-- THE RESULT: the embedding plus `wave` at the position and the column. -/
theorem result_eq (c : Dev nD) : G1 m c = total (m ((c : Thread nD τ).loc main_arg1)) := by
  funext i
  have hi0 : (i 0).val < 8192 := (i 0).isLt
  have hi1 : (i 1).val < 1024 := (i 1).isLt
  have hp : pt1Of i = (i 0).val / 2048 := by
    show 1 * ((i 0).val / 2048 - 0) + 1 * ((i 1).val / 1024 - 0) = _
    omega
  have hlt : pt1Of i < cfg0.N := by rw [hp, show cfg0.N = 4 from N_0]; omega
  unfold G1
  rw [dif_pos hlt, ← outsAt0_sweep m c (pt1Of i) hlt, left_by]
  show blockVal (pt1Of i) (iblk m c 0 ⟨pt1Of i, hlt⟩) (loc1Of i) = total _ i
  unfold blockVal total
  show _ + wave (2048 * pt1Of i + (i 0).val % 2048) ((i 1).val % 1024) = _
  rw [block_apply m c ⟨pt1Of i, hlt⟩ (loc1Of i) i (by
      show (i 0).val = pt1Of i * 2048 + (i 0).val % 2048
      omega) (by
      show (i 1).val = (i 1).val % 1024
      omega), hp, Nat.mod_eq_of_lt hi1, show 2048 * ((i 0).val / 2048) + (i 0).val % 2048 = (i 0).val from by omega]

end Cert.Rope

end
-- ==== Proof.Ref.lean ====
/- What the reference adds and what it adds to. It looks the rows of the embedding up at the positions 0, 1, … — a gather
   with negative positions wrapped and rows out of range masked, and here neither happens, so the lookup is the array
   itself. It adds the sines and the cosines of position times frequency, laid side by side. -/
module

public import proofs.«01_k».proof.Proof.Angles
public import proofs.«01_k».proof.Proof.Gen.ReferenceIdeal.Run
public import Idealize.ShloMosaic.Lib.ReduceAll
public import Idealize.ShloMosaic.Lib.IdealHost

@[expose] public section

noncomputable section

namespace Cert.Rope

open Idealize.ShloMosaic
open Cert.ReferenceIdeal Cert.ReferenceIdeal.Gen

/-- The positions, made real and then integers again, are the positions. -/
theorem positions : (fptosi 32 (sitofp .f32 (iotaInDim S8192 32 0) : FVec Ideal S8192 .f32) : IVec S8192 32) = iotaInDim S8192 32 0 := by
  funext j
  have hj : (j 0).val < 8192 := (j 0).isLt
  show Ideal.fptosi 32 ((((BitVec.ofNat 32 (j 0).val).toInt : ℝ) : EReal)) = BitVec.ofNat 32 (j 0).val
  rw [toInt_ofNat (by omega), Ideal.fptosi, Ideal.toIntClamped_coe]
  rw [if_pos (by push_cast; positivity), Int.floor_intCast]
  rw [min_eq_right (by push_cast; omega), max_eq_right (by push_cast; omega), BitVec.ofInt_natCast]

/-- The row numbers the gather takes: entry `p` is `p`. -/
theorem rows (j : S8192x1.Idx) :
    broadcastInDim S8192x1 ![0] bcast_S8192_S8192x1_0
      (select (cmpi .slt (iotaInDim S8192 32 0) (broadcastInDim S8192 ![] bcast_S_S8192 (constantI S_ 32 0#32)))
        (addi (iotaInDim S8192 32 0) (broadcastInDim S8192 ![] bcast_S_S8192 (constantI S_ 32 8192#32))) (iotaInDim S8192 32 0)) j
    = BitVec.ofNat 32 (j 0).val := by
  have hj : (j 0).val < 8192 := (j 0).isLt
  refine (broadcastInDim_apply _ _ _ j (ValueIdx.ix1 (j 0)) (fun a => ?_)).trans ?_
  · obtain rfl : a = 0 := Subsingleton.elim _ _
    rfl
  show (if IntOp.cmpi .slt (BitVec.ofNat 32 (j 0).val) 0#32 = 1#1 then _ else BitVec.ofNat 32 (j 0).val) = _
  rw [if_neg]
  show ¬(BitVec.ofBool (BitVec.slt (BitVec.ofNat 32 (j 0).val) 0#32) = 1#1)
  rw [BitVec.slt, toInt_ofNat (n := (j 0).val) (by omega), show (0#32 : BitVec 32).toInt = 0 from rfl, decide_eq_false (by omega)]
  decide

/-- The gather at row number `p` for result row `p` is the array. -/
theorem gather_rows {α : Type} (x : S8192x1024.Idx → α) (idx : IVec S8192x1 32) (hidx : ∀ j, idx j = BitVec.ofNat 32 (j 0).val) :
    Host.gather gather_S8192x1024_S8192x1_S8192x1024_1_0_n_n_0_1_11024 x idx = x := by
  funext y
  have hy : (y 0).val < 8192 := (y 0).isLt
  unfold Host.gather
  refine congrArg x (funext fun a => Fin.ext ?_)
  show GatherDims.start _ y idx a + GatherDims.batchCoord _ y a + GatherDims.offCoord _ y a = (y a).val
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl)), GatherDims.start,
      dif_pos (show (0 : Fin 2) ∈ gather_S8192x1024_S8192x1_S8192x1024_1_0_n_n_0_1_11024.startIndexMap from List.mem_singleton.mpr rfl), hidx]
    show min (BitVec.ofNat 32 (y 0).val).toInt.toNat (8192 - 1) + 0 + 0 = (y 0).val
    rw [toInt_ofNat (by omega)]
    omega
  · rw [GatherDims.batchCoord_eq_zero _ _ _ List.not_mem_nil, GatherDims.start,
      dif_neg (show ¬(1 : Fin 2) ∈ gather_S8192x1024_S8192x1_S8192x1024_1_0_n_n_0_1_11024.startIndexMap by decide), GatherDims.offCoord,
      dif_pos (show (1 : Fin 2) ∈ gather_S8192x1024_S8192x1_S8192x1024_1_0_n_n_0_1_11024.sKept by decide)]
    show 0 + 0 + (y 1).val = (y 1).val
    omega

/-- A mask of ones, reduced along its one column and spread over the columns of the array, is one everywhere. -/
theorem mask_one (M : IVec S8192x1 1) (hM : ∀ j, M j = 1#1) (y : S8192x1024.Idx) :
    broadcastInDim S8192x1024 ![0] bcast_S8192_S8192x1024_0
      (Host.reduce IntOp.andi M (constantI S_ 1 1#1) reducesTo_S8192x1_S8192_d1 h_S_) y = 1#1 := by
  refine (broadcastInDim_apply _ _ _ y (ValueIdx.ix1 (y 0)) (fun a => ?_)).trans (Host.reduce_andi_one M _ _ _ _ rfl hM)
  obtain rfl : a = 0 := Subsingleton.elim _ _
  rfl

/-- The lookup, mask and all, is the array. -/
theorem looked_up (x : FVec Ideal S8192x1024 .f32) (I : IVec S8192x1 32) (hI : ∀ j, I j = BitVec.ofNat 32 (j 0).val)
    (N : FVec Ideal S8192x1024 .f32) :
    select (broadcastInDim S8192x1024 ![0] bcast_S8192_S8192x1024_0 (Host.reduce IntOp.andi (andi
        (cmpi .sge I (broadcastInDim S8192x1 ![] bcast_S_S8192x1 (constantI S_ 32 0#32)))
        (cmpi .sle I (broadcastInDim S8192x1 ![0, 1] bcast_S1x1_S8192x1_0_1 (broadcastInDim S1x1 ![1] bcast_S1_S1x1_1 (constantI S1 32 8191#32)))))
        (constantI S_ 1 1#1) reducesTo_S8192x1_S8192_d1 h_S_))
      (Host.gather gather_S8192x1024_S8192x1_S8192x1024_1_0_n_n_0_1_11024 x I) N = x := by
  rw [gather_rows x I hI]
  funext y
  refine (congrArg (fun b => Scalar.select b (x y) (N y)) (mask_one _ (fun j => ?_) y)).trans rfl
  have hj : (j 0).val < 8192 := (j 0).isLt
  show IntOp.andi (BitVec.ofBool (BitVec.sle 0#32 (I j))) (BitVec.ofBool (BitVec.sle (I j) 8191#32)) = 1#1
  rw [hI, BitVec.sle, BitVec.sle, toInt_ofNat (n := (j 0).val) (by omega)]
  have h0 : ((0#32 : BitVec 32).toInt ≤ ((j 0).val : ℤ)) := by simp
  have h1 : (((j 0).val : ℤ) ≤ (8191#32 : BitVec 32).toInt) := by
    rw [show (8191#32 : BitVec 32).toInt = 8191 from by decide]; omega
  rw [decide_eq_true h0, decide_eq_true h1]
  rfl

/-- The frequencies the reference takes by its power. -/
theorem freqs (k : S512.Idx) :
    Host.powf (F := Ideal) (φ := .f32) (broadcastInDim S512 ![] bcast_S_S512 (constant S_ .f32 0x461C4000#32))
      (Host.divf (Host.negf (addf (broadcastInDim S512 ![] bcast_S_S512 (constant S_ .f32 0x00000000#32))
        (mulf (broadcastInDim S512 ![] bcast_S_S512 (constant S_ .f32 0x40000000#32)) (sitofp .f32 (iotaInDim S512 32 0)))))
        (broadcastInDim S512 ![] bcast_S_S512 (constant S_ .f32 0x44800000#32))) k = ((freq (k 0).val : ℝ) : EReal) := by
  have hk : (k 0).val < 512 := (k 0).isLt
  show Ideal.pow (Ideal.ofBits .f32 0x461C4000#32) (Ideal.div (-(Ideal.ofBits .f32 0x00000000#32
    + Ideal.ofBits .f32 0x40000000#32 * (((BitVec.ofNat 32 (k 0).val).toInt : ℝ) : EReal))) (Ideal.ofBits .f32 0x44800000#32)) = _
  rw [toInt_ofNat (by omega), word_0, word_2, word_1024, word_10000, Ideal.div_coe (by norm_num), ← EReal.coe_mul, ← EReal.coe_add,
    ← EReal.coe_neg, ← EReal.coe_mul, Ideal.pow_coe_coe]
  exact congrArg _ (freq_eq_rpow _)

/-- The reference's angles: position times frequency. -/
theorem angles (f : FVec Ideal S512 .f32) (hf : ∀ k, f k = ((freq (k 0).val : ℝ) : EReal)) (j : S8192x512.Idx) :
    mulf (F := Ideal) (φ := .f32) (broadcastInDim S8192x512 ![0, 1] bcast_S8192x1_S8192x512_0_1
        (broadcastInDim S8192x1 ![0] bcast_S8192_S8192x1_0 (sitofp .f32 (iotaInDim S8192 32 0))))
      (broadcastInDim S8192x512 ![0, 1] bcast_S1x512_S8192x512_0_1 (broadcastInDim S1x512 ![1] bcast_S512_S1x512_1 f)) j
    = (((j 0).val * freq (j 1).val : ℝ) : EReal) := by
  have hj : (j 0).val < 8192 := (j 0).isLt
  have e : (broadcastInDim S8192x512 ![0, 1] bcast_S1x512_S8192x512_0_1 (broadcastInDim S1x512 ![1] bcast_S512_S1x512_1 f)) j
      = f (ValueIdx.ix1 (j 1)) := by
    refine (broadcastInDim_apply _ _ _ j (cell (n := 1) 0 (j 1)) (fun a => ?_)).trans
      (broadcastInDim_apply _ _ _ _ (ValueIdx.ix1 (j 1)) (fun a => ?_))
    · match a with
      | ⟨0, _⟩ => rfl
      | ⟨1, _⟩ => rfl
    · obtain rfl : a = 0 := Subsingleton.elim _ _
      rfl
  show (((BitVec.ofNat 32 (j 0).val).toInt : ℝ) : EReal) * _ = _
  rw [e, hf, toInt_ofNat (by omega), ← EReal.coe_mul]
  push_cast
  rfl

/-- The sines and the cosines of the angles, side by side, are `wave`. -/
theorem waves (A : FVec Ideal S8192x512 .f32) (hA : ∀ j, A j = (((j 0).val * freq (j 1).val : ℝ) : EReal)) (y : S8192x1024.Idx) :
    concatenate S8192x1024 1 [⟨S8192x512, Host.sin A⟩, ⟨S8192x512, Host.cos A⟩] concatenates_S8192x512_S8192x512_S8192x1024_d1 y
    = wave (y 0).val (y 1).val := by
  have hy : (y 1).val < 1024 := (y 1).isLt
  unfold wave
  by_cases h : (y 1).val < 512
  · rw [if_pos h]
    refine (concatenate_pair_apply_left (s₁ := S8192x512) (s₂ := S8192x512) _ (Host.sin A) (Host.cos A) _ y rfl (cell (n := 8192) (y 0) ⟨(y 1).val, h⟩) (fun b => ?_)).trans ?_
    · match b with
      | ⟨0, _⟩ => rfl
      | ⟨1, _⟩ => rfl
    · show Ideal.sin (A (cell (n := 8192) (y 0) ⟨(y 1).val, h⟩)) = _
      rw [hA, Ideal.sin_coe]; rfl
  · rw [if_neg h]
    refine (concatenate_pair_apply_right (s₁ := S8192x512) (s₂ := S8192x512) _ (Host.sin A) (Host.cos A) _ y rfl rfl (cell (n := 8192) (y 0) ⟨(y 1).val - 512, by omega⟩) (fun b hb => ?_) ?_).trans ?_
    · match b, hb with
      | ⟨0, _⟩, _ => rfl
      | ⟨1, _⟩, hb => exact absurd rfl hb
    · show (y 1).val - 512 + 512 = (y 1).val
      omega
    · show Ideal.cos (A (cell (n := 8192) (y 0) ⟨(y 1).val - 512, by omega⟩)) = _
      rw [hA, Ideal.cos_coe]; rfl

end Cert.Rope

end
-- ==== Proof.lean ====
/- The claims of the sinusoidal position embedding's certificate, put together. The kernel adds to each row of the
   embedding the sines and the cosines of the row's angles, read off tables it fills at the first grid point; the
   reference looks the rows up and adds the sines and the cosines laid side by side. Both add the same function to the
   same array. -/
module

public import proofs.«01_k».proof.Defs
public import proofs.«01_k».proof.Proof.Gen.Kernel.Frame
public import proofs.«01_k».proof.Proof.Array
public import proofs.«01_k».proof.Proof.Ref
public import Idealize.ShloMosaic.Adequacy
public import Idealize.ShloMosaic.Init
public import Idealize.ShloMosaic.Lib.Quiescent

@[expose] public section

noncomputable section

namespace Cert.Proof

open Idealize.ShloMosaic Idealize.SL.Sem Cert.Rope

/-- The reference ends, and leaves its arguments as they were. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's constant `-log 10000 / 512`, rounded, may be named. -/
theorem preserves_Kernel_KernelIdeal : preserves_Kernel_KernelIdeal :=
  IdealRules.named_const.statement Cert.KernelIdeal.κ "log_scale" .f32 0xBC935D8E#32 (((-1 / 512) * (Real.log 10000) : ℝ) : EReal) rfl

/-- The kernel and the reference end with the same array, whatever the embedding holds. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, result_eq m c, positions]
  funext y
  refine (congrArg₂ (fun a b : EReal => a + b) (congrFun (looked_up _ _ rows _) y) (waves _ (angles _ freqs) y)).trans ?_
  exact congrArg (fun x => total x y) (hagree c).2

/-- Every claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal,
  preserves_Kernel_KernelIdeal, algebraic_KernelIdeal_ReferenceIdeal⟩

end Cert.Proof

end
